-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_zero_biases [hPre_zero_biases : Cert.Pre_zero_biases.Facts] (m : (ℓ : Loc Cert.KernelIdeal.nD Cert.KernelIdeal.τ Cert.KernelIdeal.sig) → Buf (Elt Ideal) ℓ) : Prop :=
  ∀ c : Dev Cert.KernelIdeal.nD,
    (Cert.Pre_zero_biases.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_zero_biases [hPre_zero_biases : Cert.Pre_zero_biases.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_zero_biases.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_zero_biases [hKernelIdeal : Cert.KernelIdeal.Facts] [hPre_zero_biases : Cert.Pre_zero_biases.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_zero_biases m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_zero_biases [hReferenceIdeal : Cert.ReferenceIdeal.Facts] [hPre_zero_biases : Cert.Pre_zero_biases.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_zero_biases m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_zero_biases [hKernelIdeal : Cert.KernelIdeal.Facts] [hReferenceIdeal : Cert.ReferenceIdeal.Facts] [hPre_zero_biases : Cert.Pre_zero_biases.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_zero_biases m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_v107) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_zero_biases : Cert.Pre_zero_biases.Facts),
    quiescent_Kernel (hKernel := hKernel)
    ∧ quiescent_KernelIdeal (hKernelIdeal := hKernelIdeal)
    ∧ quiescent_KernelIdeal_pre_zero_biases (hKernelIdeal := hKernelIdeal) (hPre_zero_biases := hPre_zero_biases)
    ∧ quiescent_ReferenceIdeal (hReferenceIdeal := hReferenceIdeal)
    ∧ quiescent_ReferenceIdeal_pre_zero_biases (hReferenceIdeal := hReferenceIdeal) (hPre_zero_biases := hPre_zero_biases)
    ∧ preserves_Kernel_KernelIdeal
    ∧ algebraic_KernelIdeal_ReferenceIdeal_pre_zero_biases (hKernelIdeal := hKernelIdeal) (hReferenceIdeal := hReferenceIdeal) (hPre_zero_biases := hPre_zero_biases)
-- ==== Pre_zero_biases.lean ====
abbrev S4x2048x3 : Shape := ⟨3, ![4, 2048, 3]⟩
abbrev S4x8192x3 : Shape := ⟨3, ![4, 8192, 3]⟩
abbrev S3x128 : Shape := ⟨2, ![3, 128]⟩
abbrev S128 : Shape := ⟨1, ![128]⟩
abbrev S128x4 : Shape := ⟨2, ![128, 4]⟩
abbrev S4 : Shape := ⟨1, ![4]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S128 : S_.BroadcastsInDim S128 (![] : Fin 0 → Fin S128.rank)
  reducesTo_S128_S_d0 : S128.ReducesTo [0] S_
  h_S_ : 0 < S_.numel
  bcast_S_S4 : S_.BroadcastsInDim S4 (![] : Fin 0 → Fin S4.rank)
  reducesTo_S4_S_d0 : S4.ReducesTo [0] S_
  bcast_S_S1 : S_.BroadcastsInDim S1 (![] : Fin 0 → Fin S1.rank)
  reducesTo_S1_S_d0 : S1.ReducesTo [0] S_

variable [Facts]

def fn_part1 {F : FTy → Type} [FloatOps F] (main_arg12 : FVec F S128 .f32) (main_arg14 : FVec F S1 .f32) (main_v14 : IVec S_ 1) (main_cst_6 : FVec F S_ .f32) : IVec S_ 1 :=
  let main_v15 : FVec F S128 .f32 := broadcastInDim S128 ![] bcast_S_S128 main_cst_6
  let main_v16 : IVec S128 1 := cmpf .oeq main_arg12 main_v15
  let main_c_7 : IVec S_ 1 := constantI S_ 1 1#1
  let main_v17 : IVec S_ 1 := (fun x v => Host.reduce IntOp.andi x v reducesTo_S128_S_d0 h_S_) main_v16 main_c_7
  let main_v18 : IVec S_ 1 := andi main_v14 main_v17
  let main_cst_8 : FVec F S_ .f32 := constant S_ .f32 0x00000000#32
  let main_v19 : FVec F S1 .f32 := broadcastInDim S1 ![] bcast_S_S1 main_cst_8
  let main_v20 : IVec S1 1 := cmpf .oeq main_arg14 main_v19
  let main_c_9 : IVec S_ 1 := constantI S_ 1 1#1
  let main_v21 : IVec S_ 1 := (fun x v => Host.reduce IntOp.andi x v reducesTo_S1_S_d0 h_S_) main_v20 main_c_9
  let main_v22 : IVec S_ 1 := andi main_v18 main_v21
  main_v22

def fn {F : FTy → Type} [FloatOps F] (main_arg0 : FVec F S4x2048x3 .f32) (main_arg1 : FVec F S4x8192x3 .f32) (main_arg2 : FVec F S3x128 .f32) (main_arg3 : FVec F S128 .f32) (main_arg4 : FVec F S128x4 .f32) (main_arg5 : FVec F S4 .f32) (main_arg6 : FVec F S3x128 .f32) (main_arg7 : FVec F S128 .f32) (main_arg8 : FVec F S128x128 .f32) (main_arg9 : FVec F S128 .f32) (main_arg10 : FVec F S3x128 .f32) (main_arg11 : FVec F S128x128 .f32) (main_arg12 : FVec F S128 .f32) (main_arg13 : FVec F S128x1 .f32) (main_arg14 : FVec F S1 .f32) : IVec S_ 1 :=
  let main_cst : FVec F S_ .f32 := constant S_ .f32 0x00000000#32
  let main_v0 : FVec F S128 .f32 := broadcastInDim S128 ![] bcast_S_S128 main_cst
  let main_v1 : IVec S128 1 := cmpf .oeq main_arg3 main_v0
  let main_c : IVec S_ 1 := constantI S_ 1 1#1
  let main_v2 : IVec S_ 1 := (fun x v => Host.reduce IntOp.andi x v reducesTo_S128_S_d0 h_S_) main_v1 main_c
  let main_cst_0 : FVec F S_ .f32 := constant S_ .f32 0x00000000#32
  let main_v3 : FVec F S4 .f32 := broadcastInDim S4 ![] bcast_S_S4 main_cst_0
  let main_v4 : IVec S4 1 := cmpf .oeq main_arg5 main_v3
  let main_c_1 : IVec S_ 1 := constantI S_ 1 1#1
  let main_v5 : IVec S_ 1 := (fun x v => Host.reduce IntOp.andi x v reducesTo_S4_S_d0 h_S_) main_v4 main_c_1
  let main_v6 : IVec S_ 1 := andi main_v2 main_v5
  let main_cst_2 : FVec F S_ .f32 := constant S_ .f32 0x00000000#32
  let main_v7 : FVec F S128 .f32 := broadcastInDim S128 ![] bcast_S_S128 main_cst_2
  let main_v8 : IVec S128 1 := cmpf .oeq main_arg7 main_v7
  let main_c_3 : IVec S_ 1 := constantI S_ 1 1#1
  let main_v9 : IVec S_ 1 := (fun x v => Host.reduce IntOp.andi x v reducesTo_S128_S_d0 h_S_) main_v8 main_c_3
  let main_v10 : IVec S_ 1 := andi main_v6 main_v9
  let main_cst_4 : FVec F S_ .f32 := constant S_ .f32 0x00000000#32
  let main_v11 : FVec F S128 .f32 := broadcastInDim S128 ![] bcast_S_S128 main_cst_4
  let main_v12 : IVec S128 1 := cmpf .oeq main_arg9 main_v11
  let main_c_5 : IVec S_ 1 := constantI S_ 1 1#1
  let main_v13 : IVec S_ 1 := (fun x v => Host.reduce IntOp.andi x v reducesTo_S128_S_d0 h_S_) main_v12 main_c_5
  let main_v14 : IVec S_ 1 := andi main_v10 main_v13
  let main_cst_6 : FVec F S_ .f32 := constant S_ .f32 0x00000000#32
  fn_part1 (F := F) main_arg12 main_arg14 main_v14 main_cst_6
-- ==== Kernel.lean ====
abbrev S4x2048x3 : Shape := ⟨3, ![4, 2048, 3]⟩
abbrev S4x8192x3 : Shape := ⟨3, ![4, 8192, 3]⟩
abbrev S3x128 : Shape := ⟨2, ![3, 128]⟩
abbrev S128 : Shape := ⟨1, ![128]⟩
abbrev S128x4 : Shape := ⟨2, ![128, 4]⟩
abbrev S4 : Shape := ⟨1, ![4]⟩
abbrev S128x128 : Shape := ⟨2, ![128, 128]⟩
abbrev S128x1 : Shape := ⟨2, ![128, 1]⟩
abbrev S1 : Shape := ⟨1, ![1]⟩
abbrev S32768x3 : Shape := ⟨2, ![32768, 3]⟩
abbrev S8192x3 : Shape := ⟨2, ![8192, 3]⟩
abbrev S40960x3 : Shape := ⟨2, ![40960, 3]⟩
abbrev S3x40960 : Shape := ⟨2, ![3, 40960]⟩
abbrev S4x8192 : Shape := ⟨2, ![4, 8192]⟩
abbrev S4x4x2048 : Shape := ⟨3, ![4, 4, 2048]⟩
abbrev S3x32768 : Shape := ⟨2, ![3, 32768]⟩
abbrev S128x32768 : Shape := ⟨2, ![128, 32768]⟩
abbrev S4x32768 : Shape := ⟨2, ![4, 32768]⟩
abbrev S1x32768 : Shape := ⟨2, ![1, 32768]⟩
abbrev S3x8192 : Shape := ⟨2, ![3, 8192]⟩
abbrev S128x8192 : Shape := ⟨2, ![128, 8192]⟩
abbrev S1x8192 : Shape := ⟨2, ![1, 8192]⟩

abbrev nBuf : Space → Nat
  | .hbm => 23
  | .vmem => 10
  | .smem => 0
  | _ => 0

abbrev bufTy : (tb : Table) → Fin (tcTables nBuf tb) → BufTy
  | .hbm, ⟨0, _⟩ => ⟨S4x2048x3, .f32⟩
  | .hbm, ⟨1, _⟩ => ⟨S4x8192x3, .f32⟩
  | .hbm, ⟨2, _⟩ => ⟨S3x128, .f32⟩
  | .hbm, ⟨3, _⟩ => ⟨S128, .f32⟩
  | .hbm, ⟨4, _⟩ => ⟨S128x4, .f32⟩
  | .hbm, ⟨5, _⟩ => ⟨S4, .f32⟩
  | .hbm, ⟨6, _⟩ => ⟨S3x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S3x128, .f32⟩
  | .hbm, ⟨11, _⟩ => ⟨S128x128, .f32⟩
  | .hbm, ⟨12, _⟩ => ⟨S128, .f32⟩
  | .hbm, ⟨13, _⟩ => ⟨S128x1, .f32⟩
  | .hbm, ⟨14, _⟩ => ⟨S1, .f32⟩
  | .hbm, ⟨15, _⟩ => ⟨S32768x3, .f32⟩
  | .hbm, ⟨16, _⟩ => ⟨S8192x3, .f32⟩
  | .hbm, ⟨17, _⟩ => ⟨S40960x3, .f32⟩
  | .hbm, ⟨18, _⟩ => ⟨S3x40960, .f32⟩
  | .hbm, ⟨19, _⟩ => ⟨S4x8192, .f32⟩
  | .hbm, ⟨20, _⟩ => ⟨S4x8192, .f32⟩
  | .hbm, ⟨21, _⟩ => ⟨S4x4x2048, .f32⟩
  | .hbm, ⟨22, _⟩ => ⟨S4x4x2048, .f32⟩
  | .local _ .vmem, ⟨0, _⟩ => ⟨S3x40960, .f32⟩
  | .local _ .vmem, ⟨1, _⟩ => ⟨S3x128, .f32⟩
  | .local _ .vmem, ⟨2, _⟩ => ⟨S128x4, .f32⟩
  | .local _ .vmem, ⟨3, _⟩ => ⟨S3x128, .f32⟩
  | .local _ .vmem, ⟨4, _⟩ => ⟨S128x128, .f32⟩
  | .local _ .vmem, ⟨5, _⟩ => ⟨S3x128, .f32⟩
  | .local _ .vmem, ⟨6, _⟩ => ⟨S128x128, .f32⟩
  | .local _ .vmem, ⟨7, _⟩ => ⟨S128x1, .f32⟩
  | .local _ .vmem, ⟨8, _⟩ => ⟨S4x8192, .f32⟩
  | .local _ .vmem, ⟨9, _⟩ => ⟨S4x8192, .f32⟩
  | _, _ => ⟨S4x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4_0 : Ref sig .tc := ⟨.hbm, 19, rfl⟩
abbrev main_call0_v4_1 : Ref sig .tc := ⟨.hbm, 20, rfl⟩
abbrev main_v0_0 : Ref sig .tc := ⟨.hbm, 21, rfl⟩
abbrev main_v0_1 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S3x40960 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x8192 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4x8192 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S4x2048x3 : Shape := ⟨3, ![4, 2048, 3]⟩
abbrev S4x8192x3 : Shape := ⟨3, ![4, 8192, 3]⟩
abbrev S3x128 : Shape := ⟨2, ![3, 128]⟩
abbrev S128 : Shape := ⟨1, ![128]⟩
abbrev S128x4 : Shape := ⟨2, ![128, 4]⟩
abbrev S4 : Shape := ⟨1, ![4]⟩
abbrev S128x128 : Shape := ⟨2, ![128, 128]⟩
abbrev S128x1 : Shape := ⟨2, ![128, 1]⟩
abbrev S1 : Shape := ⟨1, ![1]⟩
abbrev S4x8192x128 : Shape := ⟨3, ![4, 8192, 128]⟩
abbrev S1x1x128 : Shape := ⟨3, ![1, 1, 128]⟩
abbrev S_ : Shape := ⟨0, ![]⟩
abbrev S4x8192x4 : Shape := ⟨3, ![4, 8192, 4]⟩
abbrev S1x1x4 : Shape := ⟨3, ![1, 1, 4]⟩
abbrev S4x8192 : Shape := ⟨2, ![4, 8192]⟩
abbrev S32768x3 : Shape := ⟨2, ![32768, 3]⟩
abbrev S32768 : Shape := ⟨1, ![32768]⟩
abbrev S32768x128 : Shape := ⟨2, ![32768, 128]⟩
abbrev S1x128 : Shape := ⟨2, ![1, 128]⟩
abbrev S32768x1 : Shape := ⟨2, ![32768, 1]⟩
abbrev S4x2048x128 : Shape := ⟨3, ![4, 2048, 128]⟩
abbrev S4x2048x1 : Shape := ⟨3, ![4, 2048, 1]⟩
abbrev S1x1x1 : Shape := ⟨3, ![1, 1, 1]⟩
abbrev S4x2048 : Shape := ⟨2, ![4, 2048]⟩
abbrev S1x4x2048 : Shape := ⟨3, ![1, 4, 2048]⟩
abbrev S4x4x2048 : Shape := ⟨3, ![4, 4, 2048]⟩

abbrev nBuf : Space → Nat
  | .hbm => 165
  | .vmem => 0
  | .smem => 0
  | _ => 0

abbrev hbmTy0_0 (i : Nat) : BufTy := match i % 128 with
  | 0 => ⟨S4x2048x3, .f32⟩
  | 1 => ⟨S4x8192x3, .f32⟩
  | 2 => ⟨S3x128, .f32⟩
  | 3 => ⟨S128, .f32⟩
  | 4 => ⟨S128x4, .f32⟩
  | 5 => ⟨S4, .f32⟩
  | 6 => ⟨S3x128, .f32⟩
  | 7 => ⟨S128, .f32⟩
  | 8 => ⟨S128x128, .f32⟩
  | 9 => ⟨S128, .f32⟩
  | 10 => ⟨S3x128, .f32⟩
  | 11 => ⟨S128x128, .f32⟩
  | 12 => ⟨S128, .f32⟩
  | 13 => ⟨S128x1, .f32⟩
  | 14 => ⟨S1, .f32⟩
  | 15 => ⟨S4x8192x128, .f32⟩
  | 16 => ⟨S1x1x128, .f32⟩
  | 17 => ⟨S4x8192x128, .f32⟩
  | 18 => ⟨S4x8192x128, .f32⟩
  | 19 => ⟨S_, .f32⟩
  | 20 => ⟨S4x8192x128, .f32⟩
  | 21 => ⟨S4x8192x128, .f32⟩
  | 22 => ⟨S4x8192x4, .f32⟩
  | 23 => ⟨S1x1x4, .f32⟩
  | 24 => ⟨S4x8192x4, .f32⟩
  | 25 => ⟨S4x8192x4, .f32⟩
  | 26 => ⟨S4x8192x4, .i32⟩
  | 27 => ⟨S_, .f32⟩
  | 28 => ⟨S_, .i32⟩
  | 29 => ⟨S4x8192, .f32⟩
  | 30 => ⟨S4x8192, .i32⟩
  | 31 => ⟨S32768x3, .f32⟩
  | 32 => ⟨S32768, .i32⟩
  | 33 => ⟨S32768x128, .f32⟩
  | 34 => ⟨S1x128, .f32⟩
  | 35 => ⟨S32768x128, .f32⟩
  | 36 => ⟨S32768x128, .f32⟩
  | 37 => ⟨S_, .f32⟩
  | 38 => ⟨S32768x128, .f32⟩
  | 39 => ⟨S32768x128, .f32⟩
  | 40 => ⟨S32768x128, .f32⟩
  | 41 => ⟨S1x128, .f32⟩
  | 42 => ⟨S32768x128, .f32⟩
  | 43 => ⟨S32768x128, .f32⟩
  | 44 => ⟨S_, .i32⟩
  | 45 => ⟨S32768, .i32⟩
  | 46 => ⟨S32768, .i1⟩
  | 47 => ⟨S32768x1, .i1⟩
  | 48 => ⟨S_, .f32⟩
  | 49 => ⟨S_, .f32⟩
  | 50 => ⟨S32768x128, .i1⟩
  | 51 => ⟨S32768x128, .f32⟩
  | 52 => ⟨S32768x128, .f32⟩
  | 53 => ⟨S_, .f32⟩
  | 54 => ⟨S128, .f32⟩
  | 55 => ⟨S4x2048x128, .f32⟩
  | 56 => ⟨S128, .f32⟩
  | 57 => ⟨S1x1x128, .f32⟩
  | 58 => ⟨S4x2048x128, .f32⟩
  | 59 => ⟨S4x2048x128, .f32⟩
  | 60 => ⟨S1x1x128, .f32⟩
  | 61 => ⟨S4x2048x128, .f32⟩
  | 62 => ⟨S4x2048x128, .f32⟩
  | 63 => ⟨S_, .f32⟩
  | 64 => ⟨S4x2048x128, .f32⟩
  | 65 => ⟨S4x2048x128, .f32⟩
  | 66 => ⟨S4x2048x1, .f32⟩
  | 67 => ⟨S1x1x1, .f32⟩
  | 68 => ⟨S4x2048x1, .f32⟩
  | 69 => ⟨S4x2048x1, .f32⟩
  | 70 => ⟨S4x2048, .f32⟩
  | 71 => ⟨S_, .i32⟩
  | 72 => ⟨S32768, .i32⟩
  | 73 => ⟨S32768, .i1⟩
  | 74 => ⟨S32768x1, .i1⟩
  | 75 => ⟨S_, .f32⟩
  | 76 => ⟨S_, .f32⟩
  | 77 => ⟨S32768x128, .i1⟩
  | 78 => ⟨S32768x128, .f32⟩
  | 79 => ⟨S32768x128, .f32⟩
  | 80 => ⟨S_, .f32⟩
  | 81 => ⟨S128, .f32⟩
  | 82 => ⟨S4x2048x128, .f32⟩
  | 83 => ⟨S128, .f32⟩
  | 84 => ⟨S1x1x128, .f32⟩
  | 85 => ⟨S4x2048x128, .f32⟩
  | 86 => ⟨S4x2048x128, .f32⟩
  | 87 => ⟨S1x1x128, .f32⟩
  | 88 => ⟨S4x2048x128, .f32⟩
  | 89 => ⟨S4x2048x128, .f32⟩
  | 90 => ⟨S_, .f32⟩
  | 91 => ⟨S4x2048x128, .f32⟩
  | 92 => ⟨S4x2048x128, .f32⟩
  | 93 => ⟨S4x2048x1, .f32⟩
  | 94 => ⟨S1x1x1, .f32⟩
  | 95 => ⟨S4x2048x1, .f32⟩
  | 96 => ⟨S4x2048x1, .f32⟩
  | 97 => ⟨S4x2048, .f32⟩
  | 98 => ⟨S_, .i32⟩
  | 99 => ⟨S32768, .i32⟩
  | 100 => ⟨S32768, .i1⟩
  | 101 => ⟨S32768x1, .i1⟩
  | 102 => ⟨S_, .f32⟩
  | 103 => ⟨S_, .f32⟩
  | 104 => ⟨S32768x128, .i1⟩
  | 105 => ⟨S32768x128, .f32⟩
  | 106 => ⟨S32768x128, .f32⟩
  | 107 => ⟨S_, .f32⟩
  | 108 => ⟨S128, .f32⟩
  | 109 => ⟨S4x2048x128, .f32⟩
  | 110 => ⟨S128, .f32⟩
  | 111 => ⟨S1x1x128, .f32⟩
  | 112 => ⟨S4x2048x128, .f32⟩
  | 113 => ⟨S4x2048x128, .f32⟩
  | 114 => ⟨S1x1x128, .f32⟩
  | 115 => ⟨S4x2048x128, .f32⟩
  | 116 => ⟨S4x2048x128, .f32⟩
  | 117 => ⟨S_, .f32⟩
  | 118 => ⟨S4x2048x128, .f32⟩
  | 119 => ⟨S4x2048x128, .f32⟩
  | 120 => ⟨S4x2048x1, .f32⟩
  | 121 => ⟨S1x1x1, .f32⟩
  | 122 => ⟨S4x2048x1, .f32⟩
  | 123 => ⟨S4x2048x1, .f32⟩
  | 124 => ⟨S4x2048, .f32⟩
  | 125 => ⟨S_, .i32⟩
  | 126 => ⟨S32768, .i32⟩
  | 127 => ⟨S32768, .i1⟩
  | _ => ⟨S4x2048x3, .f32⟩

abbrev hbmTy0_1 (i : Nat) : BufTy := match i % 128 with
  | 0 => ⟨S32768x1, .i1⟩
  | 1 => ⟨S_, .f32⟩
  | 2 => ⟨S_, .f32⟩
  | 3 => ⟨S32768x128, .i1⟩
  | 4 => ⟨S32768x128, .f32⟩
  | 5 => ⟨S32768x128, .f32⟩
  | 6 => ⟨S_, .f32⟩
  | 7 => ⟨S128, .f32⟩
  | 8 => ⟨S4x2048x128, .f32⟩
  | 9 => ⟨S128, .f32⟩
  | 10 => ⟨S1x1x128, .f32⟩
  | 11 => ⟨S4x2048x128, .f32⟩
  | 12 => ⟨S4x2048x128, .f32⟩
  | 13 => ⟨S1x1x128, .f32⟩
  | 14 => ⟨S4x2048x128, .f32⟩
  | 15 => ⟨S4x2048x128, .f32⟩
  | 16 => ⟨S_, .f32⟩
  | 17 => ⟨S4x2048x128, .f32⟩
  | 18 => ⟨S4x2048x128, .f32⟩
  | 19 => ⟨S4x2048x1, .f32⟩
  | 20 => ⟨S1x1x1, .f32⟩
  | 21 => ⟨S4x2048x1, .f32⟩
  | 22 => ⟨S4x2048x1, .f32⟩
  | 23 => ⟨S4x2048, .f32⟩
  | 24 => ⟨S1x4x2048, .f32⟩
  | 25 => ⟨S1x4x2048, .f32⟩
  | 26 => ⟨S1x4x2048, .f32⟩
  | 27 => ⟨S1x4x2048, .f32⟩
  | 28 => ⟨S4x4x2048, .f32⟩
  | 29 => ⟨S4x4x2048, .f32⟩
  | 30 => ⟨S4x4x2048, .f32⟩
  | 31 => ⟨S_, .f32⟩
  | 32 => ⟨S4x4x2048, .f32⟩
  | 33 => ⟨S4x4x2048, .f32⟩
  | 34 => ⟨S_, .f32⟩
  | 35 => ⟨S4x4x2048, .f32⟩
  | 36 => ⟨S4x4x2048, .f32⟩
  | _ => ⟨S4x2048x3, .f32⟩

abbrev hbmTy (i : Nat) : BufTy := match i / 128 with
  | 0 => hbmTy0_0 i
  | 1 => hbmTy0_1 i
  | _ => ⟨S4x2048x3, .f32⟩

abbrev bufTy : (tb : Table) → Fin (tcTables nBuf tb) → BufTy
  | .hbm, ⟨i, _⟩ => hbmTy i
  | _, _ => ⟨S4x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_call0_cst : Ref sig .tc := ⟨.hbm, 19, rfl⟩
abbrev main_call0_v0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_call1_v0 : Ref sig .tc := ⟨.hbm, 26, rfl⟩
abbrev main_call1_cst : Ref sig .tc := ⟨.hbm, 27, rfl⟩
abbrev main_call1_c : Ref sig .tc := ⟨.hbm, 28, rfl⟩
abbrev main_call1_v1_0 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_call2_cst : Ref sig .tc := ⟨.hbm, 37, rfl⟩
abbrev main_call2_v0 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_c : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_cst : Ref sig .tc := ⟨.hbm, 48, rfl⟩
abbrev main_call3_v0 : Ref sig .tc := ⟨.hbm, 49, rfl⟩
abbrev main_call3_v1 : Ref sig .tc := ⟨.hbm, 50, rfl⟩
abbrev main_call3_v2 : Ref sig .tc := ⟨.hbm, 51, rfl⟩
abbrev main_v24 : Ref sig .tc := ⟨.hbm, 52, rfl⟩
abbrev main_cst_0 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_call4_cst : Ref sig .tc := ⟨.hbm, 63, rfl⟩
abbrev main_call4_v0 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_c_1 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_2 : Ref sig .tc := ⟨.hbm, 75, rfl⟩
abbrev main_call5_v0 : Ref sig .tc := ⟨.hbm, 76, rfl⟩
abbrev main_call5_v1 : Ref sig .tc := ⟨.hbm, 77, rfl⟩
abbrev main_call5_v2 : Ref sig .tc := ⟨.hbm, 78, rfl⟩
abbrev main_v43 : Ref sig .tc := ⟨.hbm, 79, rfl⟩
abbrev main_cst_3 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_call6_cst : Ref sig .tc := ⟨.hbm, 90, rfl⟩
abbrev main_call6_v0 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_c_4 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_cst_5 : Ref sig .tc := ⟨.hbm, 102, rfl⟩
abbrev main_call7_v0 : Ref sig .tc := ⟨.hbm, 103, rfl⟩
abbrev main_call7_v1 : Ref sig .tc := ⟨.hbm, 104, rfl⟩
abbrev main_call7_v2 : Ref sig .tc := ⟨.hbm, 105, rfl⟩
abbrev main_v62 : Ref sig .tc := ⟨.hbm, 106, rfl⟩
abbrev main_cst_6 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_call8_cst : Ref sig .tc := ⟨.hbm, 117, rfl⟩
abbrev main_call8_v0 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_c_7 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_cst_8 : Ref sig .tc := ⟨.hbm, 129, rfl⟩
abbrev main_call9_v0 : Ref sig .tc := ⟨.hbm, 130, rfl⟩
abbrev main_call9_v1 : Ref sig .tc := ⟨.hbm, 131, rfl⟩
abbrev main_call9_v2 : Ref sig .tc := ⟨.hbm, 132, rfl⟩
abbrev main_v81 : Ref sig .tc := ⟨.hbm, 133, rfl⟩
abbrev main_cst_9 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_call10_cst : Ref sig .tc := ⟨.hbm, 144, rfl⟩
abbrev main_call10_v0 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_cst_10 : Ref sig .tc := ⟨.hbm, 159, rfl⟩
abbrev main_v104 : Ref sig .tc := ⟨.hbm, 160, rfl⟩
abbrev main_v105 : Ref sig .tc := ⟨.hbm, 161, rfl⟩
abbrev main_cst_11 : Ref sig .tc := ⟨.hbm, 162, rfl⟩
abbrev main_v106 : Ref sig .tc := ⟨.hbm, 163, rfl⟩
abbrev main_v107 : Ref sig .tc := ⟨.hbm, 164, rfl⟩

abbrev nD : Nat := 1
abbrev τ : Topo := Topo.v7x

variable {F : FTy → Type} [FloatOps F]
-- ==== Proof.KernelRun.lean ====
/- The kernel's run: what its one block reads off the arguments, and the run that leaves the two results at
   the block's two output arrays, reshaped. -/
module

public import proofs.«01_k».proof.Proof.Gen.KernelIdeal.Frame
public import Idealize.ShloMosaic.Lib.Pipeline.ValueKit
public import Idealize.ShloMosaic.Lib.Claim
public import Idealize.ShloMosaic.Lib.StableHlo.RunRead

@[expose] public section

set_option maxRecDepth 16384

noncomputable section

namespace Cert.KernelIdeal.Stage

open Idealize.ShloMosaic Idealize.ShloMosaic.TcCoe Idealize.SL.Sem Cert.KernelIdeal Cert.KernelIdeal.Gen

variable {F : FTy → Type} [FloatOps F] [Named F]
variable (m : (ℓ : Loc nD τ sig) → Buf (Elt F) ℓ) (g : Dev nD → PrngReg)

/-- Points and queries as columns: the points of every batch, then the queries of every batch. -/
def cols (q : FVec F S4x2048x3 .f32) (pc : FVec F S4x8192x3 .f32) : FVec F S3x40960 .f32 :=
  transpose S3x40960 [1, 0]
    (concatenate S40960x3 0
      [⟨S32768x3, shapeCast S32768x3 pc shapeCasts_S4x8192x3_S32768x3⟩,
       ⟨S8192x3, shapeCast S8192x3 q shapeCasts_S4x2048x3_S8192x3⟩]
      concatenates_S32768x3_S8192x3_S40960x3_d0)
    transposes_S40960x3_S3x40960_1_0

/-- The columns of the argument arrays that a memory holds on device `c`. -/
def colsOf (c : Dev nD) : FVec F S3x40960 .f32 :=
  cols (m ((c.tc : Thread nD τ).loc main_arg0)) (m ((c.tc : Thread nD τ).loc main_arg1))

/-- The region's first operand holds the columns. -/
theorem V_cols (c : Dev nD) : V m c main_call0_v3 = colsOf m c := by
  unfold V V0
  after_reads_simp
  rfl

/-- The kernel's first output array on device `c`. -/
def outL (c : Dev nD) : FVec F S4x8192 .f32 :=
  out0_8 (colsOf m c) (m ((c.tc : Thread nD τ).loc main_arg2)) (m ((c.tc : Thread nD τ).loc main_arg4))
    (m ((c.tc : Thread nD τ).loc main_arg6)) (m ((c.tc : Thread nD τ).loc main_arg8))
    (m ((c.tc : Thread nD τ).loc main_arg10)) (m ((c.tc : Thread nD τ).loc main_arg11))
    (m ((c.tc : Thread nD τ).loc main_arg13))

/-- The kernel's second output array on device `c`. -/
def outP (c : Dev nD) : FVec F S4x8192 .f32 :=
  out0_9 (colsOf m c) (m ((c.tc : Thread nD τ).loc main_arg2)) (m ((c.tc : Thread nD τ).loc main_arg4))
    (m ((c.tc : Thread nD τ).loc main_arg6)) (m ((c.tc : Thread nD τ).loc main_arg8))
    (m ((c.tc : Thread nD τ).loc main_arg10)) (m ((c.tc : Thread nD τ).loc main_arg11))
    (m ((c.tc : Thread nD τ).loc main_arg13))

/-- Every window's block index at the one point. -/
theorem idx : ∀ t : Fin cfg0.N,
    win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] :=
  (by decide +kernel : ∀ t : Fin grid0.N, _)

/-- The block of window 0 is the whole of the columns. -/
theorem iblk0 (c : Dev nD) (t : Fin cfg0.N) : iblk m c 0 t = colsOf m c := by
  rw [← V_cols m c]
  blk_ext! [iblk, idx t]

/-- The block of window 1 is the whole of its weight matrix. -/
theorem iblk1 (c : Dev nD) (t : Fin cfg0.N) : iblk m c 1 t = m ((c.tc : Thread nD τ).loc main_arg2) := by
  rw [← V_main_arg2 m c]
  blk_ext! [iblk, idx t]

/-- The block of window 2 is the whole of its weight matrix. -/
theorem iblk2 (c : Dev nD) (t : Fin cfg0.N) : iblk m c 2 t = m ((c.tc : Thread nD τ).loc main_arg4) := by
  rw [← V_main_arg4 m c]
  blk_ext! [iblk, idx t]

/-- The block of window 3 is the whole of its weight matrix. -/
theorem iblk3 (c : Dev nD) (t : Fin cfg0.N) : iblk m c 3 t = m ((c.tc : Thread nD τ).loc main_arg6) := by
  rw [← V_main_arg6 m c]
  blk_ext! [iblk, idx t]

/-- The block of window 4 is the whole of its weight matrix. -/
theorem iblk4 (c : Dev nD) (t : Fin cfg0.N) : iblk m c 4 t = m ((c.tc : Thread nD τ).loc main_arg8) := by
  rw [← V_main_arg8 m c]
  blk_ext! [iblk, idx t]

/-- The block of window 5 is the whole of its weight matrix. -/
theorem iblk5 (c : Dev nD) (t : Fin cfg0.N) : iblk m c 5 t = m ((c.tc : Thread nD τ).loc main_arg10) := by
  rw [← V_main_arg10 m c]
  blk_ext! [iblk, idx t]

/-- The block of window 6 is the whole of its weight matrix. -/
theorem iblk6 (c : Dev nD) (t : Fin cfg0.N) : iblk m c 6 t = m ((c.tc : Thread nD τ).loc main_arg11) := by
  rw [← V_main_arg11 m c]
  blk_ext! [iblk, idx t]

/-- The block of window 7 is the whole of its weight matrix. -/
theorem iblk7 (c : Dev nD) (t : Fin cfg0.N) : iblk m c 7 t = m ((c.tc : Thread nD τ).loc main_arg13) := by
  rw [← V_main_arg13 m c]
  blk_ext! [iblk, idx t]

/-- The region leaves the first output array in window 8's array. -/
theorem arr8 (c : Dev nD) : (dats m 0 c).arrAt 8 cfg0.N = outL m c := by
  refine (dats m 0 c).arrAt_eq_of_covers 8 _ (by decide +kernel) fun t hf y => ?_
  blk_simp
  rw [after0_8, iblk0, iblk1, iblk2, iblk3, iblk4, iblk5, iblk6, iblk7]
  refine congrArg (outL m c) ?_
  blk_ext [idx t]

/-- The operation after the region reshapes the first output array. -/
theorem tail0 (c : Dev nD) : Pipeline.afterTail₀ cfgs (dats m) 0 (V0 m) [hostOps1] c main_v0_0
    = shapeCast S4x4x2048 (outL m c) shapeCasts_S4x8192_S4x4x2048 := by
  unfold Pipeline.afterTail₀
  after_reads_simp
  have h := Pipeline.withArrays_arr spec0 (by decide) c (V0 m c) (fun w => (dats m 0 c).arrAt w cfg0.N) 8
  rw [arr8] at h
  exact congrArg (fun x => shapeCast S4x4x2048 x shapeCasts_S4x8192_S4x4x2048) h

/-- The region leaves the second output array in window 9's array. -/
theorem arr9 (c : Dev nD) : (dats m 0 c).arrAt 9 cfg0.N = outP m c := by
  refine (dats m 0 c).arrAt_eq_of_covers 9 _ (by decide +kernel) fun t hf y => ?_
  blk_simp
  rw [after0_9, iblk0, iblk1, iblk2, iblk3, iblk4, iblk5, iblk6, iblk7]
  refine congrArg (outP m c) ?_
  blk_ext [idx t]

/-- The operation after the region reshapes the second output array. -/
theorem tail1 (c : Dev nD) : Pipeline.afterTail₀ cfgs (dats m) 0 (V0 m) [hostOps1] c main_v0_1
    = shapeCast S4x4x2048 (outP m c) shapeCasts_S4x8192_S4x4x2048 := by
  unfold Pipeline.afterTail₀
  after_reads_simp
  have h := Pipeline.withArrays_arr spec0 (by decide) c (V0 m c) (fun w => (dats m 0 c).arrAt w cfg0.N) 9
  rw [arr9] at h
  exact congrArg (fun x => shapeCast S4x4x2048 x shapeCasts_S4x8192_S4x4x2048) h

/-- Every execution of the kernel ends with its results at the block's two output arrays, reshaped, and its
    arguments unchanged. -/
theorem run : θ_run defs (onTc (τ := τ) (main (F := F))) ⟨m, fun _ => 0, g⟩ (fun r => ∀ c : Dev nD,
      r.2.mem ((c.tc : Thread nD τ).loc main_v0_0)
        = shapeCast S4x4x2048 (outL m c) shapeCasts_S4x8192_S4x4x2048
      ∧ r.2.mem ((c.tc : Thread nD τ).loc main_v0_1)
        = shapeCast S4x4x2048 (outP m c) shapeCasts_S4x8192_S4x4x2048
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) := by
  refine (θ_run defs _ _).mono (fun r h c => ?_) (θ_run_and (run_main m g) (unchanged m g))
  refine ⟨?_, ?_, h.2 c⟩
  · exact ((h.1 c).2 main_v0_0 (by decide)).trans (tail0 m c)
  · exact ((h.1 c).2 main_v0_1 (by decide)).trans (tail1 m c)

end Cert.KernelIdeal.Stage

end
-- ==== Proof.RefRun.lean ====
/- The reference's run: the values that its host operations compose, named stage by stage as functions
   of the arrays they read, and the run that leaves the two results at them. -/
module

public import proofs.«01_k».proof.Proof.Gen.ReferenceIdeal
public import Idealize.ShloMosaic.Lib.Claim
public import Idealize.ShloMosaic.Lib.Quiescent
public import Idealize.ShloMosaic.Lib.StableHlo.RunRead

@[expose] public section

set_option maxRecDepth 16384

noncomputable section

namespace Cert.ReferenceIdeal.Stage

open Idealize.ShloMosaic Idealize.SL.Sem Cert.ReferenceIdeal Cert.ReferenceIdeal.Gen

variable {F : FTy → Type} [FloatOps F]

/-- The segmentation logits of every point: a dense layer, a ReLU and a dense layer. -/
def segs (pc : FVec F S4x8192x3 .f32) (ws1 : FVec F S3x128 .f32) (bs1 : FVec F S128 .f32)
    (ws2 : FVec F S128x4 .f32) (bs2 : FVec F S4 .f32) : FVec F S4x8192x4 .f32 :=
  addf (Host.dotGeneral dot_S4x8192x128_S128x4_S4x8192x4_2_0_01_1_n_n none
      (maximumf
        (addf (Host.dotGeneral dot_S4x8192x3_S3x128_S4x8192x128_2_0_01_1_n_n none pc ws1)
          (broadcastInDim S4x8192x128 ![0, 1, 2] bcast_S1x1x128_S4x8192x128_0_1_2
            (broadcastInDim S1x1x128 ![2] bcast_S128_S1x1x128_2 bs1)))
        (broadcastInDim S4x8192x128 ![] bcast_S_S4x8192x128 (constant S_ .f32 0x00000000#32)))
      ws2)
    (broadcastInDim S4x8192x4 ![0, 1, 2] bcast_S1x1x4_S4x8192x4_0_1_2
      (broadcastInDim S1x1x4 ![2] bcast_S4_S1x1x4_2 bs2))

/-- The tag of every point, the points in one row: the class of the largest logit, the first of them at a tie. -/
def tags (seg : FVec F S4x8192x4 .f32) : IVec S32768 32 :=
  shapeCast S32768 (fun j => (Host.argReduce reducer_argmax_f32_i32 seg (iotaInDim S4x8192x4 32 2)
    (constant S_ .f32 0xFF800000#32) (constantI S_ 32 0#32) reducesTo_S4x8192x4_S4x8192_d2 h_S_ j).2 : IVec S4x8192 32)
    shapeCasts_S4x8192_S32768

/-- The features of every point, the points in one row. -/
def feats (pc : FVec F S4x8192x3 .f32) (we1 : FVec F S3x128 .f32) (be1 : FVec F S128 .f32)
    (we2 : FVec F S128x128 .f32) (be2 : FVec F S128 .f32) : FVec F S32768x128 .f32 :=
  addf (Host.dotGeneral dot_S32768x128_S128x128_S32768x128_1_0_0_1_n_n none
      (maximumf
        (addf (Host.dotGeneral dot_S32768x3_S3x128_S32768x128_1_0_0_1_n_n none
            (shapeCast S32768x3 pc shapeCasts_S4x8192x3_S32768x3) we1)
          (broadcastInDim S32768x128 ![0, 1] bcast_S1x128_S32768x128_0_1
            (broadcastInDim S1x128 ![1] bcast_S128_S1x128_1 be1)))
        (broadcastInDim S32768x128 ![] bcast_S_S32768x128 (constant S_ .f32 0x00000000#32)))
      we2)
    (broadcastInDim S32768x128 ![0, 1] bcast_S1x128_S32768x128_0_1
      (broadcastInDim S1x128 ![1] bcast_S128_S1x128_1 be2))

/-- The code of class `k`: the features' maximum over the points tagged `k`. -/
def code (k : BitVec 32) (tag : IVec S32768 32) (f : FVec F S32768x128 .f32) : FVec F S128 .f32 :=
  Host.reduce FloatOps.maximumf
    (select
      (broadcastInDim S32768x128 ![0, 1] bcast_S32768x1_S32768x128_0_1
        (broadcastInDim S32768x1 ![0] bcast_S32768_S32768x1_0
          (cmpi .eq tag (broadcastInDim S32768 ![] bcast_S_S32768 (constantI S_ 32 k)))))
      f
      (broadcastInDim S32768x128 ![] bcast_S_S32768x128 (constant S_ .f32 0xFF800000#32)))
    (constant S_ .f32 0xFF800000#32) reducesTo_S32768x128_S128_d0 h_S_

/-- The decoder's logits of every query under one code. -/
def logit (q : FVec F S4x2048x3 .f32) (wd1 : FVec F S3x128 .f32) (wdc : FVec F S128x128 .f32) (bd1 : FVec F S128 .f32)
    (wd2 : FVec F S128x1 .f32) (bd2 : FVec F S1 .f32) (cd : FVec F S128 .f32) : FVec F S4x2048 .f32 :=
  shapeCast S4x2048
    (addf (Host.dotGeneral dot_S4x2048x128_S128x1_S4x2048x1_2_0_01_1_n_n none
        (maximumf
          (addf
            (addf (Host.dotGeneral dot_S4x2048x3_S3x128_S4x2048x128_2_0_01_1_n_n none q wd1)
              (broadcastInDim S4x2048x128 ![0, 1, 2] bcast_S1x1x128_S4x2048x128_0_1_2
                (broadcastInDim S1x1x128 ![2] bcast_S128_S1x1x128_2
                  (Host.dotGeneral dot_S128_S128x128_S128_0_0_n_1_n_n none cd wdc))))
            (broadcastInDim S4x2048x128 ![0, 1, 2] bcast_S1x1x128_S4x2048x128_0_1_2
              (broadcastInDim S1x1x128 ![2] bcast_S128_S1x1x128_2 bd1)))
          (broadcastInDim S4x2048x128 ![] bcast_S_S4x2048x128 (constant S_ .f32 0x00000000#32)))
        wd2)
      (broadcastInDim S4x2048x1 ![0, 1, 2] bcast_S1x1x1_S4x2048x1_0_1_2
        (broadcastInDim S1x1x1 ![2] bcast_S1_S1x1x1_2 bd2)))
    shapeCasts_S4x2048x1_S4x2048

/-- Four logit arrays stacked along a new first axis. -/
def stack (l0 l1 l2 l3 : FVec F S4x2048 .f32) : FVec F S4x4x2048 .f32 :=
  concatenate S4x4x2048 0
    [⟨S1x4x2048, broadcastInDim S1x4x2048 ![1, 2] bcast_S4x2048_S1x4x2048_1_2 l0⟩,
     ⟨S1x4x2048, broadcastInDim S1x4x2048 ![1, 2] bcast_S4x2048_S1x4x2048_1_2 l1⟩,
     ⟨S1x4x2048, broadcastInDim S1x4x2048 ![1, 2] bcast_S4x2048_S1x4x2048_1_2 l2⟩,
     ⟨S1x4x2048, broadcastInDim S1x4x2048 ![1, 2] bcast_S4x2048_S1x4x2048_1_2 l3⟩]
    concatenates_S1x4x2048_S1x4x2048_S1x4x2048_S1x4x2048_S4x4x2048_d0

/-- The first result: the logits of every class, batch and query. -/
def logits (q : FVec F S4x2048x3 .f32) (pc : FVec F S4x8192x3 .f32) (ws1 : FVec F S3x128 .f32) (bs1 : FVec F S128 .f32)
    (ws2 : FVec F S128x4 .f32) (bs2 : FVec F S4 .f32) (we1 : FVec F S3x128 .f32) (be1 : FVec F S128 .f32)
    (we2 : FVec F S128x128 .f32) (be2 : FVec F S128 .f32) (wd1 : FVec F S3x128 .f32) (wdc : FVec F S128x128 .f32)
    (bd1 : FVec F S128 .f32) (wd2 : FVec F S128x1 .f32) (bd2 : FVec F S1 .f32) : FVec F S4x4x2048 .f32 :=
  stack
    (logit q wd1 wdc bd1 wd2 bd2 (code 0#32 (tags (segs pc ws1 bs1 ws2 bs2)) (feats pc we1 be1 we2 be2)))
    (logit q wd1 wdc bd1 wd2 bd2 (code 1#32 (tags (segs pc ws1 bs1 ws2 bs2)) (feats pc we1 be1 we2 be2)))
    (logit q wd1 wdc bd1 wd2 bd2 (code 2#32 (tags (segs pc ws1 bs1 ws2 bs2)) (feats pc we1 be1 we2 be2)))
    (logit q wd1 wdc bd1 wd2 bd2 (code 3#32 (tags (segs pc ws1 bs1 ws2 bs2)) (feats pc we1 be1 we2 be2)))

/-- The second result: the logistic function of the first, as the host spells it. -/
def probs (l : FVec F S4x4x2048 .f32) : FVec F S4x4x2048 .f32 :=
  Host.divf (broadcastInDim S4x4x2048 ![] bcast_S_S4x4x2048 (constant S_ .f32 0x3F800000#32))
    (addf (broadcastInDim S4x4x2048 ![] bcast_S_S4x4x2048 (constant S_ .f32 0x3F800000#32)) (Host.exp (Host.negf l)))

/-- The host operations of the reference in order, read off its program. -/
def line : {ops : List (HloOp τ sig (Elt F)) // ∀ d : Dev nD, StableHlo.IsSeq (main (F := F) d) ops} := by
  apply Subtype.mk
  hlo_seq

/-- The operations that make the tags and the features. -/
def head : List (HloOp τ sig (Elt F)) := line.1.take 29

/-- The operations that make the logits of class `k`. -/
def cls (k : ℕ) : List (HloOp τ sig (Elt F)) := (line.1.drop (29 + 27 * k)).take 27

/-- The operations that stack the logits and take their logistic function. -/
def last : List (HloOp τ sig (Elt F)) := line.1.drop 137

/-- The operations are those of the head, of the four classes and of the end. -/
theorem line_eq : (line (F := F)).1 = head ++ (cls 0 ++ (cls 1 ++ (cls 2 ++ (cls 3 ++ last)))) := by rfl

/-- The head leaves the tags. -/
theorem head_tags (V : Valuation τ sig (Elt F)) :
    StableHlo.after head V (no_index (Proc.devRef .tc main_v11))
      = tags (segs (V (Proc.devRef .tc main_arg1)) (V (Proc.devRef .tc main_arg2)) (V (Proc.devRef .tc main_arg3)) (V (Proc.devRef .tc main_arg4)) (V (Proc.devRef .tc main_arg5))) := by
  after_reads_simp; rfl

/-- The head leaves the features. -/
theorem head_feats (V : Valuation τ sig (Elt F)) :
    StableHlo.after head V (no_index (Proc.devRef .tc main_v20)) = feats (V (Proc.devRef .tc main_arg1)) (V (Proc.devRef .tc main_arg6)) (V (Proc.devRef .tc main_arg7)) (V (Proc.devRef .tc main_arg8)) (V (Proc.devRef .tc main_arg9)) := by
  after_reads_simp; rfl

/-- The logits of class `k` from the arrays that a valuation holds. -/
def logitAt (k : BitVec 32) (V : Valuation τ sig (Elt F)) : FVec F S4x2048 .f32 :=
  logit (V (Proc.devRef .tc main_arg0)) (V (Proc.devRef .tc main_arg10)) (V (Proc.devRef .tc main_arg11)) (V (Proc.devRef .tc main_arg12)) (V (Proc.devRef .tc main_arg13)) (V (Proc.devRef .tc main_arg14))
    (code k (V (Proc.devRef .tc main_v11)) (V (Proc.devRef .tc main_v20)))

/-- The operations of class 0 leave its logits. -/
theorem cls0_logit (V : Valuation τ sig (Elt F)) :
    StableHlo.after (cls 0) V (no_index (Proc.devRef .tc main_v39))
      = logitAt 0#32 V := by
  after_reads_simp; rfl

/-- The operations of class 1 leave its logits. -/
theorem cls1_logit (V : Valuation τ sig (Elt F)) :
    StableHlo.after (cls 1) V (no_index (Proc.devRef .tc main_v58))
      = logitAt 1#32 V := by
  after_reads_simp; rfl

/-- The operations of class 2 leave its logits. -/
theorem cls2_logit (V : Valuation τ sig (Elt F)) :
    StableHlo.after (cls 2) V (no_index (Proc.devRef .tc main_v77))
      = logitAt 2#32 V := by
  after_reads_simp; rfl

/-- The operations of class 3 leave its logits. -/
theorem cls3_logit (V : Valuation τ sig (Elt F)) :
    StableHlo.after (cls 3) V (no_index (Proc.devRef .tc main_v96))
      = logitAt 3#32 V := by
  after_reads_simp; rfl

/-- The end leaves the stacked logits. -/
theorem last_logits (V : Valuation τ sig (Elt F)) :
    StableHlo.after last V (no_index (Proc.devRef .tc main_v101))
      = stack (V (Proc.devRef .tc main_v39)) (V (Proc.devRef .tc main_v58)) (V (Proc.devRef .tc main_v77))
          (V (Proc.devRef .tc main_v96)) := by
  after_reads_simp; rfl

/-- The end leaves their logistic function. -/
theorem last_probs (V : Valuation τ sig (Elt F)) :
    StableHlo.after last V (no_index (Proc.devRef .tc main_v107))
      = probs (StableHlo.after last V (Proc.devRef .tc main_v101)) := by
  after_reads_simp; rfl

variable (m : (ℓ : Loc nD τ sig) → Buf (Elt F) ℓ) (g : Dev nD → PrngReg)

/-- The logits of the argument arrays that a memory holds on device `c`. -/
def logitsOf (c : Dev nD) : FVec F S4x4x2048 .f32 :=
  logits (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6)) (m ((c.tc : Thread nD τ).loc main_arg7))
    (m ((c.tc : Thread nD τ).loc main_arg8)) (m ((c.tc : Thread nD τ).loc main_arg9))
    (m ((c.tc : Thread nD τ).loc main_arg10)) (m ((c.tc : Thread nD τ).loc main_arg11))
    (m ((c.tc : Thread nD τ).loc main_arg12)) (m ((c.tc : Thread nD τ).loc main_arg13))
    (m ((c.tc : Thread nD τ).loc main_arg14))

/-- Running all the operations is running the six parts in turn. -/
theorem after_line (V : Valuation τ sig (Elt F)) :
    StableHlo.after (line (F := F)).1 V = StableHlo.after last (StableHlo.after (cls 3) (StableHlo.after (cls 2)
      (StableHlo.after (cls 1) (StableHlo.after (cls 0) (StableHlo.after head V))))) := by
  rw [line_eq]; simp only [StableHlo.after_append]

/-- Every execution of the reference ends with its results at the named values and its arguments unchanged. -/
theorem run : θ_run defs (onTc (τ := τ) (main (F := F))) ⟨m, fun _ => 0, g⟩ (fun r => ∀ c : Dev nD,
      r.2.mem ((c.tc : Thread nD τ).loc main_v101) = logitsOf m c
      ∧ r.2.mem ((c.tc : Thread nD τ).loc main_v107) = probs (logitsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) := by
  refine (θ_run defs _ _).mono (fun r h c => ?_)
    (StableHlo.run_hlo defs (main (F := F)) line.2 (by decide) (by decide) ?_ ?_ m g)
  · have h' := h c
    rw [after_line] at h'
    simp only [h', last_probs, last_logits]
    simp (disch := decide) only [cls0_logit, cls1_logit, cls2_logit, cls3_logit, logitAt, head_tags, head_feats, StableHlo.readAfter]
    exact ⟨rfl, rfl, by simp⟩
  · unfold line; simp
  · unfold line; intro _ h; (repeat (cases h with | head => rfl | tail _ h => ?_)); cases h

end Cert.ReferenceIdeal.Stage

end
-- ==== Proof.Spec.lean ====
/- The mathematics that both programs compute, over the extended reals: one point, one class, one query at a
   time. The weights are read as matrices, everything else as functions of coordinates. -/
module

public import Idealize.ShloMosaic.Lib.Pointwise

@[expose] public section

noncomputable section

namespace Cert.Spec

open Idealize.ShloMosaic

/-- A matrix of extended reals. -/
abbrev Mat (a b : ℕ) : Type := (⟨2, ![a, b]⟩ : Shape).Idx → EReal

/-- A hidden unit of a point: a dense layer and a ReLU. -/
def hid (w : Mat 3 128) (x : Fin 3 → EReal) (h : Fin 128) : EReal :=
  max (∑ d : Fin 3, x d * w (ix2 d h)) 0

/-- A dense layer on a point's hidden units. -/
def out {o : ℕ} (w1 : Mat 3 128) (w2 : Mat 128 o) (x : Fin 3 → EReal) (k : Fin o) : EReal :=
  ∑ h : Fin 128, hid w1 x h * w2 (ix2 h k)

/-- The first class whose logit is the largest. -/
def tag (s : Fin 4 → EReal) : BitVec 32 :=
  if max (max (s 0) (s 1)) (s 2) < s 3 then 3#32
  else if max (s 0) (s 1) < s 2 then 2#32
  else if s 0 < s 1 then 1#32
  else 0#32

/-- The code of class `k`: the largest feature of the points that carry the tag `k`. -/
def code (t : Fin 32768 → BitVec 32) (f : Fin 32768 → Fin 128 → EReal) (k : BitVec 32) (h : Fin 128) : EReal :=
  Finset.univ.fold max ⊥ fun n => if t n = k then f n h else ⊥

/-- The decoder's logit of a query under a code. -/
def logit (w1 : Mat 3 128) (wc : Mat 128 128) (w2 : Mat 128 1) (c : Fin 128 → EReal) (x : Fin 3 → EReal) : EReal :=
  ∑ h : Fin 128, max ((∑ d : Fin 3, x d * w1 (ix2 d h)) + ∑ i : Fin 128, c i * wc (ix2 i h)) 0 * w2 (ix2 h 0)

/-- Point `n` of the flattened batches. -/
def point (pc : (⟨3, ![4, 8192, 3]⟩ : Shape).Idx → EReal) (n : Fin 32768) (d : Fin 3) : EReal :=
  pc (ix3 ⟨n / 8192, by omega⟩ ⟨n % 8192, by omega⟩ d)

/-- The code of class `k` of the points `p`. -/
def codeOf (ws1 : Mat 3 128) (ws2 : Mat 128 4) (we1 : Mat 3 128) (we2 : Mat 128 128)
    (p : Fin 32768 → Fin 3 → EReal) (k : BitVec 32) : Fin 128 → EReal :=
  code (fun n => tag (out ws1 ws2 (p n))) (fun n => out we1 we2 (p n)) k

/-- The word of −∞. -/
theorem neg_inf : Ideal.ofBits .f32 0xFF800000#32 = (⊥ : EReal) := by
  simp [Ideal.ofBits, Ideal.ieee]

/-- A select by an equality of words is the `if` on it. -/
theorem select_eq (a b : EReal) (t k : BitVec 32) :
    Scalar.select (IntOp.cmpi .eq t k) a b = if t = k then a else b := by
  by_cases h : t = k
  · simp [Scalar.select, IntOp.cmpi, h]
  · have : (t == k) = false := by simpa using h
    simp [Scalar.select, IntOp.cmpi, h, this]

end Cert.Spec

end
-- ==== Proof.KernelAt.lean ====
/- What the kernel's block computes, read at an index: tags, features, codes, the rows of logits, their logistic
   function, and the block's two output arrays. -/
module

public import proofs.«01_k».proof.Proof.Gen.KernelIdeal.Frame
public import proofs.«01_k».proof.Proof.Spec
public import Idealize.ShloMosaic.Lib.Pipeline.ValueKit

@[expose] public section

set_option maxRecDepth 16384

noncomputable section

namespace Cert.KernelIdeal.At

open Idealize.ShloMosaic Idealize.ShloMosaic.TcCoe Cert.KernelIdeal Cert.KernelIdeal.Gen Cert.Spec

/-- The kernel's named constant is −∞. -/
theorem mask_bot : Named.named (F := Ideal) κ "mask" (φ := .f32) 0xCE6E6B28#32 = (⊥ : EReal) :=
  IdealRules.named_const.ideal_named_scalar _ _ _ _ rfl

/-- A feature with the mask added: the feature where the tag is the class, −∞ elsewhere. -/
theorem add_mask (a : EReal) (t k : BitVec 32) :
    a + Scalar.select (IntOp.cmpi .eq t k) (0 : EReal) ⊥ = if t = k then a else ⊥ := by
  rw [select_eq]
  split <;> simp

/-- A point's features. -/
theorem feats_at (x : FVec Ideal S3x32768 .f32) (w1 : FVec Ideal S3x128 .f32) (w2 : FVec Ideal S128x128 .f32)
    (h : Fin 128) (n : Fin 32768) :
    k0_pay5 (F := Ideal) x w1 w2 (ix2 h n) = out w1 w2 (fun d => x (ix2 d n)) h := by
  pointwise! [k0_pay5, k0_pay3, out, hid]

/-- A point's tag: the running maximum over the classes keeps the first of the largest. -/
theorem tags_at (x : FVec Ideal S3x32768 .f32) (w1 : FVec Ideal S3x128 .f32) (w2 : FVec Ideal S128x4 .f32)
    (n : Fin 32768) :
    k0_pay4 (F := Ideal) x w1 w2 (ix2 0 n) = tag (out w1 w2 (fun d => x (ix2 d n))) := by
  pointwise [k0_pay4, k0_pay3]
  have hs : ∀ k, (∑ h : Fin 128, w2 (ix2 h k) * max (∑ d : Fin 3, w1 (ix2 d h) * x (ix2 d n)) 0)
      = out w1 w2 (fun d => x (ix2 d n)) k := fun k => by simp only [out, hid, mul_comm]
  simp only [hs, ← max_def_lt, tag]

/-- The features masked for class 0. -/
theorem first_at (x : FVec Ideal S3x32768 .f32) (w1 : FVec Ideal S3x128 .f32) (w2 : FVec Ideal S128x4 .f32)
    (w3 : FVec Ideal S3x128 .f32) (w4 : FVec Ideal S128x128 .f32) (h : Fin 128) (n : Fin 32768) :
    k0_pay6 (F := Ideal) x w1 w2 w3 w4 (ix2 h n)
      = if k0_pay4 (F := Ideal) x w1 w2 (ix2 0 n) = 0#32 then k0_pay5 (F := Ideal) x w3 w4 (ix2 h n) else ⊥ := by
  pointwise [k0_pay6]
  rw [mask_bot, add_mask]

/-- The four codes, each multiplied with the code's weights. -/
theorem codes_at (t : IVec S1x32768 32) (f f0 : FVec Ideal S128x32768 .f32) (w : FVec Ideal S128x128 .f32)
    (h0 : ∀ h n, f0 (ix2 h n) = if t (ix2 0 n) = 0#32 then f (ix2 h n) else ⊥) (h : Fin 128) (k : Fin 4) :
    k0_pay7 (F := Ideal) t f f0 w (ix2 h k)
      = ∑ i : Fin 128, code (fun n => t (ix2 0 n)) (fun n h => f (ix2 h n)) (BitVec.ofNat 32 k) i * w (ix2 i h) := by
  pointwise [k0_pay7]
  simp only [h0, neg_inf, mask_bot, add_mask]
  refine Finset.sum_congr rfl fun i _ => ?_
  rw [mul_comm]
  fin_vals k with hk
  all_goals simp only [hk, code, Nat.reduceSub, Nat.reduceLT, ↓reduceDIte]

/-- The queries multiplied with the first layer of the decoder. -/
theorem hid_at (w1 : FVec Ideal S3x128 .f32) (x : FVec Ideal S3x8192 .f32) (h : Fin 128) (j : Fin 8192) :
    k0_pay8 (F := Ideal) w1 x (ix2 h j) = ∑ d : Fin 3, x (ix2 d j) * w1 (ix2 d h) := by
  pointwise! [k0_pay8]

/-- A class's logit from the first layer's values and the codes. -/
def row (a : FVec Ideal S128x8192 .f32) (c : FVec Ideal S128x4 .f32) (w : FVec Ideal S128x1 .f32) (k : Fin 4)
    (j : Fin 8192) : EReal :=
  ∑ h : Fin 128, max (a (ix2 h j) + c (ix2 h k)) 0 * w (ix2 h 0)

/-- The row that the kernel stores for class 0. -/
theorem row0_at (t : IVec S1x32768 32) (f f0 : FVec Ideal S128x32768 .f32) (w : FVec Ideal S128x128 .f32)
    (w1 : FVec Ideal S3x128 .f32) (x : FVec Ideal S3x8192 .f32) (v : FVec Ideal S128x1 .f32) (j : Fin 8192) :
    k0_pay10 (F := Ideal) (k0_pay9 (F := Ideal) t f f0 w w1 x) v (ix2 0 j)
      = row (k0_pay8 (F := Ideal) w1 x) (k0_pay7 (F := Ideal) t f f0 w) v 0 j := by
  pointwise! [k0_pay10, k0_pay9, row]

/-- The row that the kernel stores for class 1. -/
theorem row1_at (c : FVec Ideal S128x4 .f32) (a : FVec Ideal S128x8192 .f32) (v : FVec Ideal S128x1 .f32) (j : Fin 8192) :
    k0_pay12 (F := Ideal) c a v (ix2 0 j) = row a c v 1 j := by
  pointwise! [k0_pay12, row]

/-- The row that the kernel stores for class 2. -/
theorem row2_at (c : FVec Ideal S128x4 .f32) (a : FVec Ideal S128x8192 .f32) (v : FVec Ideal S128x1 .f32) (j : Fin 8192) :
    k0_pay14 (F := Ideal) c a v (ix2 0 j) = row a c v 2 j := by
  pointwise! [k0_pay14, row]

/-- The row that the kernel stores for class 3. -/
theorem row3_at (c : FVec Ideal S128x4 .f32) (a : FVec Ideal S128x8192 .f32) (v : FVec Ideal S128x1 .f32) (j : Fin 8192) :
    k0_pay1 (F := Ideal) (k0_pay16 (F := Ideal) c a) v (ix2 0 j) = row a c v 3 j := by
  pointwise! [k0_pay1, k0_pay16, row]

/-- The second store of class 0 is the logistic function of the first. -/
theorem prob0 (a : FVec Ideal S128x8192 .f32) (v : FVec Ideal S128x1 .f32) (j : S1x8192.Idx) :
    k0_pay11 (F := Ideal) a v j = Ideal.logistic (k0_pay10 (F := Ideal) a v j) := rfl

/-- The second store of class 1 is the logistic function of the first. -/
theorem prob1 (c : FVec Ideal S128x4 .f32) (a : FVec Ideal S128x8192 .f32) (v : FVec Ideal S128x1 .f32) (j : S1x8192.Idx) :
    k0_pay13 (F := Ideal) c a v j = Ideal.logistic (k0_pay12 (F := Ideal) c a v j) := rfl

/-- The second store of class 2 is the logistic function of the first. -/
theorem prob2 (c : FVec Ideal S128x4 .f32) (a : FVec Ideal S128x8192 .f32) (v : FVec Ideal S128x1 .f32) (j : S1x8192.Idx) :
    k0_pay15 (F := Ideal) c a v j = Ideal.logistic (k0_pay14 (F := Ideal) c a v j) := rfl

/-- The second store of class 3 is the logistic function of the first. -/
theorem prob3 (a : FVec Ideal S128x8192 .f32) (v : FVec Ideal S128x1 .f32) (j : S1x8192.Idx) :
    k0_pay2 (F := Ideal) a v j = Ideal.logistic (k0_pay1 (F := Ideal) a v j) := rfl

variable (x0 : Vec Ideal S3x40960 .f32) (x1 : Vec Ideal S3x128 .f32) (x2 : Vec Ideal S128x4 .f32)
  (x3 : Vec Ideal S3x128 .f32) (x4 : Vec Ideal S128x128 .f32) (x5 : Vec Ideal S3x128 .f32)
  (x6 : Vec Ideal S128x128 .f32) (x7 : Vec Ideal S128x1 .f32)

/-- Row `k` of the kernel's logits is the row of class `k`. -/
theorem out_row (k : Fin 4) (j : Fin 8192) :
    out0_8 (F := Ideal) x0 x1 x2 x3 x4 x5 x6 x7 (ix2 k j)
      = row (k0_pay21 (F := Ideal) x0 x1 x2 x3 x4 x5 x6 x7) (k0_pay20 (F := Ideal) x0 x1 x2 x3 x4 x5 x6 x7)
          (View.ld x7 r0_5) k j := by
  unfold out0_8
  canon_tiles y h
  all_goals
    idx_vars y
    obtain rfl : y0 = 0 := Subsingleton.elim _ _
    obtain rfl : j = y1 := Fin.ext h1
  · obtain rfl : k = 3 := Fin.ext h0
    exact row3_at _ _ _ j
  · obtain rfl : k = 2 := Fin.ext h0
    exact row2_at _ _ _ j
  · obtain rfl : k = 1 := Fin.ext h0
    exact row1_at _ _ _ j
  · obtain rfl : k = 0 := Fin.ext h0
    exact row0_at _ _ _ _ _ _ _ j

/-- The kernel's second output is the logistic function of the first. -/
theorem prob_row (k : Fin 4) (j : Fin 8192) :
    out0_9 (F := Ideal) x0 x1 x2 x3 x4 x5 x6 x7 (ix2 k j)
      = Ideal.logistic (out0_8 (F := Ideal) x0 x1 x2 x3 x4 x5 x6 x7 (ix2 k j)) := by
  rw [out_row]
  unfold out0_9
  canon_tiles y h
  all_goals
    idx_vars y
    obtain rfl : y0 = 0 := Subsingleton.elim _ _
    obtain rfl : j = y1 := Fin.ext h1
  · obtain rfl : k = 3 := Fin.ext h0
    exact (prob3 _ _ _).trans (congrArg _ (row3_at _ _ _ j))
  · obtain rfl : k = 2 := Fin.ext h0
    exact (prob2 _ _ _ _).trans (congrArg _ (row2_at _ _ _ j))
  · obtain rfl : k = 1 := Fin.ext h0
    exact (prob1 _ _ _ _).trans (congrArg _ (row1_at _ _ _ j))
  · obtain rfl : k = 0 := Fin.ext h0
    exact (prob0 _ _ _).trans (congrArg _ (row0_at _ _ _ _ _ _ _ j))

/-- Point `n` of the columns. -/
def pointAt (n : Fin 32768) (d : Fin 3) : EReal := x0 (ix2 d ⟨n, by omega⟩)

/-- Query `j` of the columns. -/
def queryAt (j : Fin 8192) (d : Fin 3) : EReal := x0 (ix2 d ⟨32768 + j, by omega⟩)

/-- The codes that the kernel computes are those of the points. -/
theorem codes_block (h : Fin 128) (k : Fin 4) :
    k0_pay20 (F := Ideal) x0 x1 x2 x3 x4 x5 x6 x7 (ix2 h k)
      = ∑ i : Fin 128, codeOf x1 x2 x3 x4 (pointAt x0) (BitVec.ofNat 32 k) i * x6 (ix2 i h) := by
  have e1 : View.ld x1 r0_1 = x1 := View.ld_unit_lit inb_S3x128_S3x128_0_0 x1 (by decide)
  have e2 : View.ld x2 r0_2 = x2 := View.ld_unit_lit inb_S128x4_S128x4_0_0 x2 (by decide)
  have e3 : View.ld x3 r0_1 = x3 := View.ld_unit_lit inb_S3x128_S3x128_0_0 x3 (by decide)
  have e4 : View.ld x4 r0_3 = x4 := View.ld_unit_lit inb_S128x128_S128x128_0_0 x4 (by decide)
  have e6 : View.ld x6 r0_3 = x6 := View.ld_unit_lit inb_S128x128_S128x128_0_0 x6 (by decide)
  have e0 : ∀ (d : Fin 3) (n : Fin 32768), View.ld x0 r0_0 (ix2 d n) = pointAt x0 n d := fun d n => by
    pointwise! [pointAt]
  unfold k0_pay20 k0_pay17 k0_pay18 k0_pay19
  rw [codes_at _ _ _ _ (fun h n => first_at _ _ _ _ _ h n)]
  simp only [tags_at, feats_at, e0, e1, e2, e3, e4]
  exact Finset.sum_congr rfl fun i _ => congrArg (_ * ·) (congrFun e6 _)

/-- The first layer's values that the kernel computes for the queries. -/
theorem hid_block (h : Fin 128) (j : Fin 8192) :
    k0_pay21 (F := Ideal) x0 x1 x2 x3 x4 x5 x6 x7 (ix2 h j) = ∑ d : Fin 3, queryAt x0 j d * x5 (ix2 d h) := by
  have e5 : View.ld x5 r0_1 = x5 := View.ld_unit_lit inb_S3x128_S3x128_0_0 x5 (by decide)
  have e0 : ∀ (d : Fin 3) (n : Fin 8192), View.ld x0 r0_4 (ix2 d n) = queryAt x0 n d := fun d n => by
    pointwise! [queryAt]
  unfold k0_pay21
  simp only [hid_at, e0, e5]

/-- The kernel's first output: a query's logit under the code of each class. -/
theorem out_at (k : Fin 4) (j : Fin 8192) :
    out0_8 (F := Ideal) x0 x1 x2 x3 x4 x5 x6 x7 (ix2 k j)
      = logit x5 x6 x7 (codeOf x1 x2 x3 x4 (pointAt x0) (BitVec.ofNat 32 k)) (queryAt x0 j) := by
  have e7 : View.ld x7 r0_5 = x7 := View.ld_unit_lit inb_S128x1_S128x1_0_0 x7 (by decide)
  rw [out_row, e7]
  simp only [row, logit, hid_block, codes_block]

end Cert.KernelIdeal.At

end
-- ==== Proof.RefAt.lean ====
/- The reference's values at an index, the biases zero. -/
module

public import proofs.«01_k».proof.Proof.RefRun
public import proofs.«01_k».proof.Proof.Spec

@[expose] public section

set_option maxRecDepth 16384

noncomputable section

namespace Cert.ReferenceIdeal.At

open Idealize.ShloMosaic Cert.ReferenceIdeal Cert.ReferenceIdeal.Gen Cert.ReferenceIdeal.Stage Cert.Spec

/-- The elements that a reduction of a rank-3 array along its last axis folds over, in row-major order. -/
theorem fiber {a b c : ℕ} (h : (⟨3, ![a, b, c]⟩ : Shape).ReducesTo [2] ⟨2, ![a, b]⟩) (i : Fin a) (j : Fin b) :
    ((List.finRange (⟨3, ![a, b, c]⟩ : Shape).numel).filter
        fun n => h.drop ((⟨3, ![a, b, c]⟩ : Shape).rowMajor.symm n) = ix2 i j)
      = (List.finRange c).map fun k => (⟨3, ![a, b, c]⟩ : Shape).rowMajor (ix3 i j k) := by
  have hv : ∀ k : Fin c, ((⟨3, ![a, b, c]⟩ : Shape).rowMajor (ix3 i j k)).val = (i.val * b + j.val) * c + k.val :=
    fun k => Shape.rowMajor_val_three _
  have h₁ : ((List.finRange (⟨3, ![a, b, c]⟩ : Shape).numel).filter
      fun n => h.drop ((⟨3, ![a, b, c]⟩ : Shape).rowMajor.symm n) = ix2 i j).Pairwise (· < ·) :=
    (List.sortedLT_finRange _).pairwise.filter _
  have h₂ : ((List.finRange c).map fun k => (⟨3, ![a, b, c]⟩ : Shape).rowMajor (ix3 i j k)).Pairwise (· < ·) := by
    refine List.pairwise_map.mpr ((List.sortedLT_finRange c).pairwise.imp fun {k l} hkl => ?_)
    rw [Fin.lt_def, hv, hv]
    exact Nat.add_lt_add_left hkl _
  refine List.Perm.eq_of_pairwise' h₁ h₂ ((List.perm_ext_iff_of_nodup (h₁.imp ne_of_lt) (h₂.imp ne_of_lt)).mpr fun n => ?_)
  rw [List.mem_filter, List.mem_map, decide_eq_true_iff, Shape.ReducesTo.fiber_r3_a2]
  constructor
  · rintro ⟨-, k, hk⟩
    exact ⟨k, List.mem_finRange k, ((Equiv.symm_apply_eq _).mp hk.symm).symm⟩
  · rintro ⟨k, -, rfl⟩
    exact ⟨List.mem_finRange _, k, (Equiv.symm_apply_apply _ _).symm⟩

/-- One step of the arg-max: a value at a larger index wins if it is strictly larger. -/
theorem step (x y : EReal) (i k : BitVec 32) (h : IntOp.cmpi .slt i k = 1#1) :
    reducer_argmax_f32_i32 (F := Ideal) (x, i) (y, k) = (max x y, if x < y then k else i) := by
  rcases lt_trichotomy x y with hxy | rfl | hxy
  · simp [reducer_argmax_f32_i32, Ideal.cmpf_def, Ideal.cmp, Scalar.select, IntOp.ori, IntOp.andi, hxy, hxy.le, hxy.not_gt, hxy.ne, h]
  · simp [reducer_argmax_f32_i32, Ideal.cmpf_def, Ideal.cmp, Scalar.select, IntOp.ori, IntOp.andi, h]
  · simp [reducer_argmax_f32_i32, Ideal.cmpf_def, Ideal.cmp, Scalar.select, IntOp.ori, IntOp.andi, hxy, hxy.le, hxy.not_gt, hxy.ne', h]

/-- The first step of the arg-max, from −∞: the first value wins. -/
theorem step_bot (y : EReal) :
    reducer_argmax_f32_i32 (F := Ideal) ((⊥ : EReal), 0#32) (y, 0#32) = (y, 0#32) := by
  have h : IntOp.cmpi .slt 0#32 0#32 = 0#1 := rfl
  rcases eq_or_ne y ⊥ with rfl | hy
  · simp [reducer_argmax_f32_i32, Ideal.cmpf_def, Ideal.cmp, Scalar.select, IntOp.ori, IntOp.andi, h]
  · simp [reducer_argmax_f32_i32, Ideal.cmpf_def, Ideal.cmp, Scalar.select, IntOp.ori, IntOp.andi, h, hy.symm]

/-- A point's segmentation logits. -/
theorem segs_at (pc : FVec Ideal S4x8192x3 .f32) (ws1 : FVec Ideal S3x128 .f32) (ws2 : FVec Ideal S128x4 .f32)
    (b : Fin 4) (i : Fin 8192) (k : Fin 4) :
    segs (F := Ideal) pc ws1 (fun _ => 0) ws2 (fun _ => 0) (ix3 b i k) = out ws1 ws2 (fun d => pc (ix3 b i d)) k := by
  pointwise [segs, out, hid]

/-- A point's features. -/
theorem feats_at (pc : FVec Ideal S4x8192x3 .f32) (we1 : FVec Ideal S3x128 .f32) (we2 : FVec Ideal S128x128 .f32)
    (n : Fin 32768) (h : Fin 128) :
    feats (F := Ideal) pc we1 (fun _ => 0) we2 (fun _ => 0) (ix2 n h) = out we1 we2 (point pc n) h := by
  pointwise [feats, out, hid, point]

/-- A class's code: the maximum over the points that carry its tag. -/
theorem code_at (k : BitVec 32) (t : IVec S32768 32) (f : FVec Ideal S32768x128 .f32) (h : Fin 128) :
    Stage.code (F := Ideal) k t f (ix1 h) = Spec.code (fun n => t (ix1 n)) (fun n h => f (ix2 n h)) k h := by
  pointwise [Stage.code, Spec.code]
  simp only [neg_inf, select_eq]

/-- A query's logit under a code. -/
theorem logit_at (q : FVec Ideal S4x2048x3 .f32) (wd1 : FVec Ideal S3x128 .f32) (wdc : FVec Ideal S128x128 .f32)
    (wd2 : FVec Ideal S128x1 .f32) (cd : FVec Ideal S128 .f32) (b : Fin 4) (j : Fin 2048) :
    Stage.logit (F := Ideal) q wd1 wdc (fun _ => 0) wd2 (fun _ => 0) cd (ix2 b j)
      = Spec.logit wd1 wdc wd2 (fun i => cd (ix1 i)) (fun d => q (ix3 b j d)) := by
  pointwise [Stage.logit, Spec.logit]

/-- The arg-max's index over four values. -/
theorem argmax (s : FVec Ideal S4x8192x4 .f32) (b : Fin 4) (i : Fin 8192) :
    (Host.argReduce reducer_argmax_f32_i32 s (iotaInDim S4x8192x4 32 2)
      (constant S_ .f32 0xFF800000#32) (constantI S_ 32 0#32) reducesTo_S4x8192x4_S4x8192_d2 h_S_ (ix2 b i)).2
      = tag (fun k => s (ix3 b i k)) := by
  rw [Ideal.argReduce_eq_reduce2, Host.reduce2_eq_foldl_fiber, Host.argReduceFiber, fiber]
  have e : ∀ k : Fin 4, (s (S4x8192x4.rowMajor.symm (S4x8192x4.rowMajor (ix3 b i k))),
      iotaInDim S4x8192x4 32 2 (S4x8192x4.rowMajor.symm (S4x8192x4.rowMajor (ix3 b i k))))
        = (s (ix3 b i k), BitVec.ofNat 32 k) := fun k => by rw [Equiv.symm_apply_apply]; rfl
  have e0 : constant (F := Ideal) S_ .f32 0xFF800000#32 (Shape.Idx.first h_S_) = (⊥ : EReal) := neg_inf
  have l : List.finRange 4 = [0, 1, 2, 3] := rfl
  rw [List.map_map, l, e0]
  simp only [List.map_cons, List.map_nil, Function.comp, e, List.foldl_cons, List.foldl_nil]
  show (reducer_argmax_f32_i32 (reducer_argmax_f32_i32 (reducer_argmax_f32_i32
    (reducer_argmax_f32_i32 ((⊥ : EReal), 0#32) (s (ix3 b i 0), 0#32)) (s (ix3 b i 1), 1#32))
    (s (ix3 b i 2), 2#32)) (s (ix3 b i 3), 3#32)).2 = _
  rw [step_bot, step (s (ix3 b i 0)) _ _ _ rfl, step (max (s (ix3 b i 0)) _) _ _ _ (by split <;> rfl),
    step (max (max (s (ix3 b i 0)) _) _) _ _ _ (by split <;> [rfl; split <;> rfl])]
  rfl

/-- A point's tag. -/
theorem tags_at (s : FVec Ideal S4x8192x4 .f32) (n : Fin 32768) :
    tags (F := Ideal) s (ix1 n) = tag (fun k => s (ix3 ⟨n / 8192, by omega⟩ ⟨n % 8192, by omega⟩ k)) := by
  pointwise [tags]
  exact argmax s _ _

end Cert.ReferenceIdeal.At

end
-- ==== Proof.ZeroBiases.lean ====
/- What the precondition says: the six bias arrays hold zero. -/
module

public import proofs.«01_k».proof.Proof.Gen.Pre_zero_biases
public import Idealize.ShloMosaic.Lib.ReduceAll
public import Idealize.ShloMosaic.Lib.Pointwise

@[expose] public section

noncomputable section

namespace Cert.Pre_zero_biases.Read

open Idealize.ShloMosaic Cert.Pre_zero_biases Cert.Pre_zero_biases.Gen

/-- An element that compares equal to the zero word is zero. -/
theorem eq_zero (x : EReal) (h : FloatOps.cmpf (F := Ideal) (φ := .f32) .oeq x (Ideal.ofBits .f32 0x00000000#32) = 1#1) :
    x = 0 := by
  have hz : Ideal.ofBits .f32 0x00000000#32 = (0 : EReal) := by simp [Ideal.ofBits, Ideal.ieee]
  rw [hz, Ideal.cmpf_def] at h
  by_contra hx
  simp [Ideal.cmp, hx] at h

/-- An array without axes has one index. -/
instance : Subsingleton S_.Idx := ⟨fun _ _ => funext fun a => a.elim0⟩

/-- A conjunction over an array of comparisons with zero says that the array is zero. -/
theorem all_zero {s : Shape} {axes : List (Fin s.rank)} (x : FVec Ideal s .f32) (z : FVec Ideal s .f32)
    (hz : ∀ i, z i = Ideal.ofBits .f32 0x00000000#32) (v : IVec S_ 1) (h : s.ReducesTo axes S_) (hu : 0 < S_.numel)
    (j : S_.Idx) (e : Host.reduce IntOp.andi (cmpf .oeq x z) v h hu j = 1#1) : x = fun _ => 0 :=
  funext fun i => eq_zero _ (by
    have := Host.reduce_andi_all _ v h hu j e i
    rw [← hz i]; exact this)

/-- The precondition makes every bias zero. -/
theorem zero (a0 : FVec Ideal S4x2048x3 .f32) (a1 : FVec Ideal S4x8192x3 .f32) (a2 : FVec Ideal S3x128 .f32)
    (a3 : FVec Ideal S128 .f32) (a4 : FVec Ideal S128x4 .f32) (a5 : FVec Ideal S4 .f32) (a6 : FVec Ideal S3x128 .f32)
    (a7 : FVec Ideal S128 .f32) (a8 : FVec Ideal S128x128 .f32) (a9 : FVec Ideal S128 .f32)
    (a10 : FVec Ideal S3x128 .f32) (a11 : FVec Ideal S128x128 .f32) (a12 : FVec Ideal S128 .f32)
    (a13 : FVec Ideal S128x1 .f32) (a14 : FVec Ideal S1 .f32)
    (h : fn (F := Ideal) a0 a1 a2 a3 a4 a5 a6 a7 a8 a9 a10 a11 a12 a13 a14 = fun _ => 1#1) :
    (a3 = fun _ => 0) ∧ (a5 = fun _ => 0) ∧ (a7 = fun _ => 0) ∧ (a9 = fun _ => 0) ∧ (a12 = fun _ => 0)
      ∧ (a14 = fun _ => 0) := by
  have e := congrFun h ix0
  simp only [fn, fn_part1, andi, IntOp.andi_eq_one] at e
  obtain ⟨⟨⟨⟨⟨h3, h5⟩, h7⟩, h9⟩, h12⟩, h14⟩ := e
  exact ⟨all_zero _ _ (fun _ => rfl) _ _ _ _ h3, all_zero _ _ (fun _ => rfl) _ _ _ _ h5,
    all_zero _ _ (fun _ => rfl) _ _ _ _ h7, all_zero _ _ (fun _ => rfl) _ _ _ _ h9,
    all_zero _ _ (fun _ => rfl) _ _ _ _ h12, all_zero _ _ (fun _ => rfl) _ _ _ _ h14⟩

end Cert.Pre_zero_biases.Read

end
-- ==== Proof.Agree.lean ====
/- The two programs' results are one function of the arguments: both are the mathematics of Spec.lean, read at
   a class, a batch and a query. -/
module

public import proofs.«01_k».proof.Proof.KernelRun
public import proofs.«01_k».proof.Proof.KernelAt
public import proofs.«01_k».proof.Proof.RefAt
public import proofs.«01_k».proof.Proof.ZeroBiases

@[expose] public section

set_option maxRecDepth 16384

noncomputable section

namespace Cert.Agree

open Idealize.ShloMosaic Cert.Spec

/-- The columns' points are the batches' points. -/
theorem cols_point (q : FVec Ideal Cert.KernelIdeal.S4x2048x3 .f32) (pc : FVec Ideal Cert.KernelIdeal.S4x8192x3 .f32) :
    Cert.KernelIdeal.At.pointAt (Cert.KernelIdeal.Stage.cols (F := Ideal) q pc) = point pc := by
  funext n d
  pointwise [Cert.KernelIdeal.At.pointAt, Cert.KernelIdeal.Stage.cols, point]

/-- The columns' queries are the batches' queries. -/
theorem cols_query (q : FVec Ideal Cert.KernelIdeal.S4x2048x3 .f32) (pc : FVec Ideal Cert.KernelIdeal.S4x8192x3 .f32)
    (j : Fin 8192) :
    Cert.KernelIdeal.At.queryAt (Cert.KernelIdeal.Stage.cols (F := Ideal) q pc) j
      = fun d => q (ix3 ⟨j / 2048, by omega⟩ ⟨j % 2048, by omega⟩ d) := by
  funext d
  pointwise [Cert.KernelIdeal.At.queryAt, Cert.KernelIdeal.Stage.cols]

/-- The reference's first result with the biases zero. -/
theorem logits_at (q : FVec Ideal Cert.ReferenceIdeal.S4x2048x3 .f32) (pc : FVec Ideal Cert.ReferenceIdeal.S4x8192x3 .f32)
    (ws1 : FVec Ideal Cert.ReferenceIdeal.S3x128 .f32) (ws2 : FVec Ideal Cert.ReferenceIdeal.S128x4 .f32)
    (we1 : FVec Ideal Cert.ReferenceIdeal.S3x128 .f32) (we2 : FVec Ideal Cert.ReferenceIdeal.S128x128 .f32)
    (wd1 : FVec Ideal Cert.ReferenceIdeal.S3x128 .f32) (wdc : FVec Ideal Cert.ReferenceIdeal.S128x128 .f32)
    (wd2 : FVec Ideal Cert.ReferenceIdeal.S128x1 .f32) (k : Fin 4) (b : Fin 4) (j : Fin 2048) :
    Cert.ReferenceIdeal.Stage.logits (F := Ideal) q pc ws1 (fun _ => 0) ws2 (fun _ => 0) we1 (fun _ => 0) we2 (fun _ => 0)
        wd1 wdc (fun _ => 0) wd2 (fun _ => 0) (ix3 k b j)
      = logit wd1 wdc wd2 (codeOf ws1 ws2 we1 we2 (point pc) (BitVec.ofNat 32 k)) fun d => q (ix3 b j d) := by
  have hc : ∀ k : BitVec 32, (fun i => Cert.ReferenceIdeal.Stage.code (F := Ideal) k
      (Cert.ReferenceIdeal.Stage.tags (Cert.ReferenceIdeal.Stage.segs pc ws1 (fun _ => 0) ws2 (fun _ => 0)))
      (Cert.ReferenceIdeal.Stage.feats pc we1 (fun _ => 0) we2 (fun _ => 0)) (ix1 i))
        = codeOf ws1 ws2 we1 we2 (point pc) k := fun k => by
    funext i
    rw [Cert.ReferenceIdeal.At.code_at]
    simp only [Cert.ReferenceIdeal.At.tags_at, Cert.ReferenceIdeal.At.segs_at, Cert.ReferenceIdeal.At.feats_at]
    rfl
  pointwise [Cert.ReferenceIdeal.Stage.logits, Cert.ReferenceIdeal.Stage.stack]
  simp only [Cert.ReferenceIdeal.At.logit_at, hc]
  fin_vals k with hk
  all_goals simp only [hk, Nat.reduceSub, Nat.reduceLT, ↓reduceDIte, ↓reduceIte]

/-- The reference's second result is the logistic function of the first. -/
theorem probs_at (l : FVec Ideal Cert.ReferenceIdeal.S4x4x2048 .f32) (k b : Fin 4) (j : Fin 2048) :
    Cert.ReferenceIdeal.Stage.probs (F := Ideal) l (ix3 k b j) = Ideal.logistic (l (ix3 k b j)) := by
  pointwise [Cert.ReferenceIdeal.Stage.probs, Ideal.logistic]

/-- A reshaped array of one row per class, at a class, a batch and a query. -/
theorem reshaped_at (x : FVec Ideal Cert.KernelIdeal.S4x8192 .f32) (k b : Fin 4) (j : Fin 2048) :
    shapeCast Cert.KernelIdeal.S4x4x2048 x Cert.KernelIdeal.Gen.facts.shapeCasts_S4x8192_S4x4x2048 (ix3 k b j)
      = x (ix2 k ⟨b * 2048 + j, by omega⟩) := by
  pointwise

variable (q : FVec Ideal Cert.KernelIdeal.S4x2048x3 .f32) (pc : FVec Ideal Cert.KernelIdeal.S4x8192x3 .f32)
  (ws1 : FVec Ideal Cert.KernelIdeal.S3x128 .f32) (ws2 : FVec Ideal Cert.KernelIdeal.S128x4 .f32)
  (we1 : FVec Ideal Cert.KernelIdeal.S3x128 .f32) (we2 : FVec Ideal Cert.KernelIdeal.S128x128 .f32)
  (wd1 : FVec Ideal Cert.KernelIdeal.S3x128 .f32) (wdc : FVec Ideal Cert.KernelIdeal.S128x128 .f32)
  (wd2 : FVec Ideal Cert.KernelIdeal.S128x1 .f32)

/-- The kernel's first output at a class, a batch and a query. -/
theorem kernel_at (k b : Fin 4) (j : Fin 2048) :
    Cert.KernelIdeal.Gen.out0_8 (F := Ideal) (Cert.KernelIdeal.Stage.cols q pc) ws1 ws2 we1 we2 wd1 wdc wd2
        (ix2 k ⟨b * 2048 + j, by omega⟩)
      = logit wd1 wdc wd2 (codeOf ws1 ws2 we1 we2 (point pc) (BitVec.ofNat 32 k)) fun d => q (ix3 b j d) := by
  have hb : (⟨(b.val * 2048 + j.val) / 2048, by omega⟩ : Fin 4) = b := Fin.ext (by simp only []; omega)
  have hj : (⟨(b.val * 2048 + j.val) % 2048, by omega⟩ : Fin 2048) = j := Fin.ext (by simp only []; omega)
  rw [Cert.KernelIdeal.At.out_at, cols_point, cols_query]
  simp only [hb, hj]

/-- The first results are equal. -/
theorem logits_eq :
    shapeCast Cert.KernelIdeal.S4x4x2048
        (Cert.KernelIdeal.Gen.out0_8 (F := Ideal) (Cert.KernelIdeal.Stage.cols q pc) ws1 ws2 we1 we2 wd1 wdc wd2)
        Cert.KernelIdeal.Gen.facts.shapeCasts_S4x8192_S4x4x2048
      = Cert.ReferenceIdeal.Stage.logits (F := Ideal) q pc ws1 (fun _ => 0) ws2 (fun _ => 0) we1 (fun _ => 0) we2
          (fun _ => 0) wd1 wdc (fun _ => 0) wd2 (fun _ => 0) := by
  funext y
  idx_vars y
  rw [reshaped_at, kernel_at, logits_at]

/-- The second results are equal. -/
theorem probs_eq :
    shapeCast Cert.KernelIdeal.S4x4x2048
        (Cert.KernelIdeal.Gen.out0_9 (F := Ideal) (Cert.KernelIdeal.Stage.cols q pc) ws1 ws2 we1 we2 wd1 wdc wd2)
        Cert.KernelIdeal.Gen.facts.shapeCasts_S4x8192_S4x4x2048
      = Cert.ReferenceIdeal.Stage.probs (F := Ideal)
          (Cert.ReferenceIdeal.Stage.logits (F := Ideal) q pc ws1 (fun _ => 0) ws2 (fun _ => 0) we1 (fun _ => 0) we2
            (fun _ => 0) wd1 wdc (fun _ => 0) wd2 (fun _ => 0)) := by
  funext y
  idx_vars y
  rw [reshaped_at, probs_at, Cert.KernelIdeal.At.prob_row, kernel_at, logits_at]

/-- Both results, from arguments that agree and satisfy the precondition. -/
theorem results_eq
    {b0 a0 : FVec Ideal Cert.ReferenceIdeal.S4x2048x3 .f32}
    {b1 a1 : FVec Ideal Cert.ReferenceIdeal.S4x8192x3 .f32}
    {b2 a2 : FVec Ideal Cert.ReferenceIdeal.S3x128 .f32}
    {b3 a3 : FVec Ideal Cert.ReferenceIdeal.S128 .f32}
    {b4 a4 : FVec Ideal Cert.ReferenceIdeal.S128x4 .f32}
    {b5 a5 : FVec Ideal Cert.ReferenceIdeal.S4 .f32}
    {b6 a6 : FVec Ideal Cert.ReferenceIdeal.S3x128 .f32}
    {b7 a7 : FVec Ideal Cert.ReferenceIdeal.S128 .f32}
    {b8 a8 : FVec Ideal Cert.ReferenceIdeal.S128x128 .f32}
    {b9 a9 : FVec Ideal Cert.ReferenceIdeal.S128 .f32}
    {b10 a10 : FVec Ideal Cert.ReferenceIdeal.S3x128 .f32}
    {b11 a11 : FVec Ideal Cert.ReferenceIdeal.S128x128 .f32}
    {b12 a12 : FVec Ideal Cert.ReferenceIdeal.S128 .f32}
    {b13 a13 : FVec Ideal Cert.ReferenceIdeal.S128x1 .f32}
    {b14 a14 : FVec Ideal Cert.ReferenceIdeal.S1 .f32}
    (e0 : b0 = a0) (e1 : b1 = a1) (e2 : b2 = a2) (e3 : b3 = a3) (e4 : b4 = a4) (e5 : b5 = a5) (e6 : b6 = a6) (e7 : b7 = a7)
    (e8 : b8 = a8) (e9 : b9 = a9) (e10 : b10 = a10) (e11 : b11 = a11) (e12 : b12 = a12) (e13 : b13 = a13) (e14 : b14 = a14)
    (h : Cert.Pre_zero_biases.fn (F := Ideal) a0 a1 a2 a3 a4 a5 a6 a7 a8 a9 a10 a11 a12 a13 a14 = fun _ => 1#1) :
    Cert.ReferenceIdeal.Stage.logits (F := Ideal) b0 b1 b2 b3 b4 b5 b6 b7 b8 b9 b10 b11 b12 b13 b14
        = shapeCast Cert.KernelIdeal.S4x4x2048 (Cert.KernelIdeal.Gen.out0_8 (F := Ideal) (Cert.KernelIdeal.Stage.cols a0 a1) a2 a4 a6 a8 a10 a11 a13)
            Cert.KernelIdeal.Gen.facts.shapeCasts_S4x8192_S4x4x2048
      ∧ Cert.ReferenceIdeal.Stage.probs (F := Ideal) (Cert.ReferenceIdeal.Stage.logits (F := Ideal) b0 b1 b2 b3 b4 b5 b6 b7 b8 b9 b10 b11 b12 b13 b14)
        = shapeCast Cert.KernelIdeal.S4x4x2048 (Cert.KernelIdeal.Gen.out0_9 (F := Ideal) (Cert.KernelIdeal.Stage.cols a0 a1) a2 a4 a6 a8 a10 a11 a13)
            Cert.KernelIdeal.Gen.facts.shapeCasts_S4x8192_S4x4x2048 := by
  obtain ⟨z3, z5, z7, z9, z12, z14⟩ := Cert.Pre_zero_biases.Read.zero _ _ _ _ _ _ _ _ _ _ _ _ _ _ _ h
  rw [e0, e1, e2, e3, e4, e5, e6, e7, e8, e9, e10, e11, e12, e13, e14, z3, z5, z7, z9, z12, z14]
  exact ⟨(logits_eq a0 a1 a2 a4 a6 a8 a10 a11 a13).symm, (probs_eq a0 a1 a2 a4 a6 a8 a10 a11 a13).symm⟩

end Cert.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_zero_biases
public import proofs.«01_k».proof.Proof.KernelRun
public import proofs.«01_k».proof.Proof.RefRun
public import proofs.«01_k».proof.Proof.Agree
public import proofs.«01_k».proof.Proof.ZeroBiases
public import Idealize.ShloMosaic.Lib.Claim
public import Idealize.ShloMosaic.Lib.Quiescent
public import Idealize.ShloMosaic.Adequacy
public import Idealize.ShloMosaic.Init

@[expose] public section

set_option maxRecDepth 16384

noncomputable section

namespace Cert.Proof

open Idealize.ShloMosaic Idealize.SL.Sem

/-- Every execution of the reference ends with its arguments unchanged and every counter at zero. -/
theorem reference_frame : quiescent_ReferenceIdeal := fun m ρ _ =>
  (θ_run Cert.ReferenceIdeal.defs _ _).mono
    (fun r h => ⟨fun c => (h c).2.2, Idealize.ShloMosaic.sem_eq_zero_of_no_sems (by decide) r.2⟩)
    (Cert.ReferenceIdeal.Stage.run (F := Ideal) m ρ)

/-- The kernel's ideal form and the reference end with equal results where the biases are zero. -/
theorem algebraic : algebraic_KernelIdeal_ReferenceIdeal_pre_zero_biases := by
  intro m g m' g' hpre hagree
  refine ⟨_, _, Cert.KernelIdeal.Stage.run (F := Ideal) m g,
    (θ_run Cert.ReferenceIdeal.defs _ _).mono (fun r h c => ?_) (Cert.ReferenceIdeal.Stage.run (F := Ideal) m' g')⟩
  obtain ⟨e0, e1, e2, e3, e4, e5, e6, e7, e8, e9, e10, e11, e12, e13, e14⟩ := hagree c
  have e := Cert.Agree.results_eq e0 e1 e2 e3 e4 e5 e6 e7 e8 e9 e10 e11 e12 e13 e14 (hpre c)
  exact ⟨(h c).1.trans e.1, (h c).2.1.trans e.2, (h c).2.2⟩

/-- All the claims. -/
theorem claim : Cert.Claim :=
  ⟨Cert.Kernel.Gen.facts, Cert.KernelIdeal.Gen.facts, Cert.ReferenceIdeal.Gen.facts, Cert.Pre_zero_biases.Gen.facts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    IdealRules.named_const.statement Cert.KernelIdeal.κ "mask" .f32 0xCE6E6B28#32 ⊥ rfl,
    algebraic⟩

end Cert.Proof

end
